-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_v36) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x255x32x32 : Shape := ⟨4, ![16, 255, 32, 32]⟩
abbrev S16x3x85x1024 : Shape := ⟨4, ![16, 3, 85, 1024]⟩
abbrev S16x3x1024x4 : Shape := ⟨4, ![16, 3, 1024, 4]⟩
abbrev S16x3x1x1024 : Shape := ⟨4, ![16, 3, 1, 1024]⟩
abbrev S16x3x1024x80 : Shape := ⟨4, ![16, 3, 1024, 80]⟩
abbrev S2x3x85x1024 : Shape := ⟨4, ![2, 3, 85, 1024]⟩
abbrev S2x3x1024x4 : Shape := ⟨4, ![2, 3, 1024, 4]⟩
abbrev S2x3x1x1024 : Shape := ⟨4, ![2, 3, 1, 1024]⟩
abbrev S2x3x1024x80 : Shape := ⟨4, ![2, 3, 1024, 80]⟩
abbrev S2x3x4x1024 : Shape := ⟨4, ![2, 3, 4, 1024]⟩
abbrev S2x3x80x1024 : Shape := ⟨4, ![2, 3, 80, 1024]⟩
abbrev S16x3x32x32x4 : Shape := ⟨5, ![16, 3, 32, 32, 4]⟩
abbrev S16x3x32x32 : Shape := ⟨4, ![16, 3, 32, 32]⟩
abbrev S16x3x32x32x80 : Shape := ⟨5, ![16, 3, 32, 32, 80]⟩

abbrev nBuf : Space → Nat
  | .hbm => 8
  | .vmem => 8
  | .smem => 0
  | _ => 0

abbrev bufTy : (tb : Table) → Fin (tcTables nBuf tb) → BufTy
  | .hbm, ⟨0, _⟩ => ⟨S16x255x32x32, .f32⟩
  | .hbm, ⟨1, _⟩ => ⟨S16x3x85x1024, .f32⟩
  | .hbm, ⟨2, _⟩ => ⟨S16x3x1024x4, .f32⟩
  | .hbm, ⟨3, _⟩ => ⟨S16x3x1x1024, .f32⟩
  | .hbm, ⟨4, _⟩ => ⟨S16x3x1024x80, .f32⟩
  | .hbm, ⟨5, _⟩ => ⟨S16x3x32x32x4, .f32⟩
  | .hbm, ⟨6, _⟩ => ⟨S16x3x32x32, .f32⟩
  | .hbm, ⟨7, _⟩ => ⟨S16x3x32x32x80, .f32⟩
  | .local _ .vmem, ⟨0, _⟩ => ⟨S2x3x85x1024, .f32⟩
  | .local _ .vmem, ⟨1, _⟩ => ⟨S2x3x85x1024, .f32⟩
  | .local _ .vmem, ⟨2, _⟩ => ⟨S2x3x1024x4, .f32⟩
  | .local _ .vmem, ⟨3, _⟩ => ⟨S2x3x1024x4, .f32⟩
  | .local _ .vmem, ⟨4, _⟩ => ⟨S2x3x1x1024, .f32⟩
  | .local _ .vmem, ⟨5, _⟩ => ⟨S2x3x1x1024, .f32⟩
  | .local _ .vmem, ⟨6, _⟩ => ⟨S2x3x1024x80, .f32⟩
  | .local _ .vmem, ⟨7, _⟩ => ⟨S2x3x1024x80, .f32⟩
  | _, _ => ⟨S16x255x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2x3x85x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x3x1024x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x3x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x3x1024x80 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S16x255x32x32 : Shape := ⟨4, ![16, 255, 32, 32]⟩
abbrev S3x2 : Shape := ⟨2, ![3, 2]⟩
abbrev S2 : Shape := ⟨1, ![2]⟩
abbrev S4 : Shape := ⟨1, ![4]⟩
abbrev S16x3x85x32x32 : Shape := ⟨5, ![16, 3, 85, 32, 32]⟩
abbrev S16x3x32x32x85 : Shape := ⟨5, ![16, 3, 32, 32, 85]⟩
abbrev S16x3x32x32x1 : Shape := ⟨5, ![16, 3, 32, 32, 1]⟩
abbrev S16x3x32x32 : Shape := ⟨4, ![16, 3, 32, 32]⟩
abbrev S_ : Shape := ⟨0, ![]⟩
abbrev S16x3x32x32x80 : Shape := ⟨5, ![16, 3, 32, 32, 80]⟩
abbrev S32 : Shape := ⟨1, ![32]⟩
abbrev S1x32 : Shape := ⟨2, ![1, 32]⟩
abbrev S1x1x1x32 : Shape := ⟨4, ![1, 1, 1, 32]⟩
abbrev S32x1x1x32 : Shape := ⟨4, ![32, 1, 1, 32]⟩
abbrev S32x32 : Shape := ⟨2, ![32, 32]⟩
abbrev S1x1x32x32 : Shape := ⟨4, ![1, 1, 32, 32]⟩
abbrev S1x2 : Shape := ⟨2, ![1, 2]⟩
abbrev S3x1 : Shape := ⟨2, ![3, 1]⟩
abbrev S3 : Shape := ⟨1, ![3]⟩
abbrev S1x3x1x1 : Shape := ⟨4, ![1, 3, 1, 1]⟩
abbrev S16x3x32x32x4 : Shape := ⟨5, ![16, 3, 32, 32, 4]⟩
abbrev S1x1x1x1x4 : Shape := ⟨5, ![1, 1, 1, 1, 4]⟩

abbrev nBuf : Space → Nat
  | .hbm => 89
  | .vmem => 0
  | .smem => 0
  | _ => 0

abbrev bufTy : (tb : Table) → Fin (tcTables nBuf tb) → BufTy
  | .hbm, ⟨0, _⟩ => ⟨S16x255x32x32, .f32⟩
  | .hbm, ⟨1, _⟩ => ⟨S3x2, .f32⟩
  | .hbm, ⟨2, _⟩ => ⟨S2, .f32⟩
  | .hbm, ⟨3, _⟩ => ⟨S4, .f32⟩
  | .hbm, ⟨4, _⟩ => ⟨S16x3x85x32x32, .f32⟩
  | .hbm, ⟨5, _⟩ => ⟨S16x3x32x32x85, .f32⟩
  | .hbm, ⟨6, _⟩ => ⟨S16x3x32x32x1, .f32⟩
  | .hbm, ⟨7, _⟩ => ⟨S16x3x32x32, .f32⟩
  | .hbm, ⟨8, _⟩ => ⟨S16x3x32x32, .f32⟩
  | .hbm, ⟨9, _⟩ => ⟨S16x3x32x32, .f32⟩
  | .hbm, ⟨10, _⟩ => ⟨S_, .f32⟩
  | .hbm, ⟨11, _⟩ => ⟨S16x3x32x32, .f32⟩
  | .hbm, ⟨12, _⟩ => ⟨S16x3x32x32, .f32⟩
  | .hbm, ⟨13, _⟩ => ⟨S_, .f32⟩
  | .hbm, ⟨14, _⟩ => ⟨S16x3x32x32, .f32⟩
  | .hbm, ⟨15, _⟩ => ⟨S16x3x32x32, .f32⟩
  | .hbm, ⟨16, _⟩ => ⟨S16x3x32x32x1, .f32⟩
  | .hbm, ⟨17, _⟩ => ⟨S16x3x32x32, .f32⟩
  | .hbm, ⟨18, _⟩ => ⟨S16x3x32x32, .f32⟩
  | .hbm, ⟨19, _⟩ => ⟨S16x3x32x32, .f32⟩
  | .hbm, ⟨20, _⟩ => ⟨S_, .f32⟩
  | .hbm, ⟨21, _⟩ => ⟨S16x3x32x32, .f32⟩
  | .hbm, ⟨22, _⟩ => ⟨S16x3x32x32, .f32⟩
  | .hbm, ⟨23, _⟩ => ⟨S_, .f32⟩
  | .hbm, ⟨24, _⟩ => ⟨S16x3x32x32, .f32⟩
  | .hbm, ⟨25, _⟩ => ⟨S16x3x32x32, .f32⟩
  | .hbm, ⟨26, _⟩ => ⟨S16x3x32x32x1, .f32⟩
  | .hbm, ⟨27, _⟩ => ⟨S16x3x32x32, .f32⟩
  | .hbm, ⟨28, _⟩ => ⟨S16x3x32x32x1, .f32⟩
  | .hbm, ⟨29, _⟩ => ⟨S16x3x32x32, .f32⟩
  | .hbm, ⟨30, _⟩ => ⟨S16x3x32x32x1, .f32⟩
  | .hbm, ⟨31, _⟩ => ⟨S16x3x32x32, .f32⟩
  | .hbm, ⟨32, _⟩ => ⟨S16x3x32x32, .f32⟩
  | .hbm, ⟨33, _⟩ => ⟨S16x3x32x32, .f32⟩
  | .hbm, ⟨34, _⟩ => ⟨S_, .f32⟩
  | .hbm, ⟨35, _⟩ => ⟨S16x3x32x32, .f32⟩
  | .hbm, ⟨36, _⟩ => ⟨S16x3x32x32, .f32⟩
  | .hbm, ⟨37, _⟩ => ⟨S_, .f32⟩
  | .hbm, ⟨38, _⟩ => ⟨S16x3x32x32, .f32⟩
  | .hbm, ⟨39, _⟩ => ⟨S16x3x32x32, .f32⟩
  | .hbm, ⟨40, _⟩ => ⟨S16x3x32x32x80, .f32⟩
  | .hbm, ⟨41, _⟩ => ⟨S16x3x32x32x80, .f32⟩
  | .hbm, ⟨42, _⟩ => ⟨S16x3x32x32x80, .f32⟩
  | .hbm, ⟨43, _⟩ => ⟨S_, .f32⟩
  | .hbm, ⟨44, _⟩ => ⟨S16x3x32x32x80, .f32⟩
  | .hbm, ⟨45, _⟩ => ⟨S16x3x32x32x80, .f32⟩
  | .hbm, ⟨46, _⟩ => ⟨S_, .f32⟩
  | .hbm, ⟨47, _⟩ => ⟨S16x3x32x32x80, .f32⟩
  | .hbm, ⟨48, _⟩ => ⟨S16x3x32x32x80, .f32⟩
  | .hbm, ⟨49, _⟩ => ⟨S32, .f32⟩
  | .hbm, ⟨50, _⟩ => ⟨S1x32, .f32⟩
  | .hbm, ⟨51, _⟩ => ⟨S1x1x1x32, .f32⟩
  | .hbm, ⟨52, _⟩ => ⟨S32x1x1x32, .f32⟩
  | .hbm, ⟨53, _⟩ => ⟨S32x32, .f32⟩
  | .hbm, ⟨54, _⟩ => ⟨S1x1x32x32, .f32⟩
  | .hbm, ⟨55, _⟩ => ⟨S32, .f32⟩
  | .hbm, ⟨56, _⟩ => ⟨S1x32, .f32⟩
  | .hbm, ⟨57, _⟩ => ⟨S1x1x1x32, .f32⟩
  | .hbm, ⟨58, _⟩ => ⟨S32x1x1x32, .f32⟩
  | .hbm, ⟨59, _⟩ => ⟨S32x32, .f32⟩
  | .hbm, ⟨60, _⟩ => ⟨S32x32, .f32⟩
  | .hbm, ⟨61, _⟩ => ⟨S1x1x32x32, .f32⟩
  | .hbm, ⟨62, _⟩ => ⟨S1x2, .f32⟩
  | .hbm, ⟨63, _⟩ => ⟨S3x2, .f32⟩
  | .hbm, ⟨64, _⟩ => ⟨S3x2, .f32⟩
  | .hbm, ⟨65, _⟩ => ⟨S3x1, .f32⟩
  | .hbm, ⟨66, _⟩ => ⟨S3, .f32⟩
  | .hbm, ⟨67, _⟩ => ⟨S1x3x1x1, .f32⟩
  | .hbm, ⟨68, _⟩ => ⟨S3x1, .f32⟩
  | .hbm, ⟨69, _⟩ => ⟨S3, .f32⟩
  | .hbm, ⟨70, _⟩ => ⟨S1x3x1x1, .f32⟩
  | .hbm, ⟨71, _⟩ => ⟨S16x3x32x32, .f32⟩
  | .hbm, ⟨72, _⟩ => ⟨S16x3x32x32, .f32⟩
  | .hbm, ⟨73, _⟩ => ⟨S16x3x32x32, .f32⟩
  | .hbm, ⟨74, _⟩ => ⟨S16x3x32x32, .f32⟩
  | .hbm, ⟨75, _⟩ => ⟨S16x3x32x32, .f32⟩
  | .hbm, ⟨76, _⟩ => ⟨S16x3x32x32, .f32⟩
  | .hbm, ⟨77, _⟩ => ⟨S16x3x32x32, .f32⟩
  | .hbm, ⟨78, _⟩ => ⟨S16x3x32x32, .f32⟩
  | .hbm, ⟨79, _⟩ => ⟨S16x3x32x32, .f32⟩
  | .hbm, ⟨80, _⟩ => ⟨S16x3x32x32, .f32⟩
  | .hbm, ⟨81, _⟩ => ⟨S16x3x32x32x1, .f32⟩
  | .hbm, ⟨82, _⟩ => ⟨S16x3x32x32x1, .f32⟩
  | .hbm, ⟨83, _⟩ => ⟨S16x3x32x32x1, .f32⟩
  | .hbm, ⟨84, _⟩ => ⟨S16x3x32x32x1, .f32⟩
  | .hbm, ⟨85, _⟩ => ⟨S16x3x32x32x4, .f32⟩
  | .hbm, ⟨86, _⟩ => ⟨S1x1x1x1x4, .f32⟩
  | .hbm, ⟨87, _⟩ => ⟨S16x3x32x32x4, .f32⟩
  | .hbm, ⟨88, _⟩ => ⟨S16x3x32x32x4, .f32⟩
  | _, _ => ⟨S16x255x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_cst_1 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_2 : Ref sig .tc := ⟨.hbm, 10, rfl⟩
abbrev main_v6 : Ref sig .tc := ⟨.hbm, 11, rfl⟩
abbrev main_v7 : Ref sig .tc := ⟨.hbm, 12, rfl⟩
abbrev main_cst_3 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_4 : Ref sig .tc := ⟨.hbm, 20, rfl⟩
abbrev main_v14 : Ref sig .tc := ⟨.hbm, 21, rfl⟩
abbrev main_v15 : Ref sig .tc := ⟨.hbm, 22, rfl⟩
abbrev main_cst_5 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_6 : Ref sig .tc := ⟨.hbm, 34, rfl⟩
abbrev main_v26 : Ref sig .tc := ⟨.hbm, 35, rfl⟩
abbrev main_v27 : Ref sig .tc := ⟨.hbm, 36, rfl⟩
abbrev main_cst_7 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_8 : Ref sig .tc := ⟨.hbm, 43, rfl⟩
abbrev main_v33 : Ref sig .tc := ⟨.hbm, 44, rfl⟩
abbrev main_v34 : Ref sig .tc := ⟨.hbm, 45, rfl⟩
abbrev main_cst_9 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩

abbrev nD : Nat := 1
abbrev τ : Topo := Topo.v7x

variable {F : FTy → Type} [FloatOps F]
-- ==== Proof.Decode.lean ====
module
public import proofs.«01_k».proof.Proof.Gen.ReferenceIdeal.Run
public import proofs.«01_k».proof.Proof.Gen.KernelIdeal.Frame
public import Idealize.ShloMosaic.Lib.Pipeline.ValueKit
public import Idealize.ShloMosaic.Lib.Pointwise

/-!
# What one entry of a decoded detection is

Both programs turn the prediction at one anchor and one cell of the 32 × 32 grid into a box, an
objectness and eighty class scores. This module says what one box entry is as a function of the
raw prediction, and works out the literals and the integer arithmetic the programs reach it by.
-/

@[expose] public section
set_option maxRecDepth 16384
noncomputable section
namespace Cert.Decode
open Idealize.ShloMosaic

/-- A cell's coordinate on the grid, as a value. -/
def cell (n : ℕ) : EReal := ((n : ℝ) : EReal)

/-- The width of an anchor as a share of a cell: the single-precision 0.28, 0.38 and 0.9. -/
def anchorW : Fin 3 → ℝ := ![9395241 / 2 ^ 25, 12750684 / 2 ^ 25, 15099494 / 2 ^ 24]

/-- The height of an anchor as a share of a cell: the single-precision 0.22, 0.48 and 0.78. -/
def anchorH : Fin 3 → ℝ := ![14763950 / 2 ^ 26, 16106127 / 2 ^ 25, 13086228 / 2 ^ 24]

/-- The side of the grid, by which every box entry is divided. -/
def side : EReal := ((32 : ℝ) : EReal)

/-- One entry of a decoded box, from the raw prediction `v` in its channel: the first two entries
    are the centre, the last two the sizes. `a` is the anchor, `g` the cell's row and `h` its
    column. -/
def boxEntry (a : Fin 3) (g h : ℕ) : Fin 4 → EReal → EReal
  | 0, v => Ideal.div (Ideal.logistic v + cell g) side
  | 1, v => Ideal.div (Ideal.logistic v + cell h) side
  | 2, v => Ideal.div (Ideal.exp v * ((anchorW a * 32 : ℝ) : EReal)) side
  | 3, v => Ideal.div (Ideal.exp v * ((anchorH a * 32 : ℝ) : EReal)) side

/-- The raw prediction of image `b` for anchor `a`, channel `k`, at cell `(g, h)`: an anchor's 85
    channels lie side by side among the 255. -/
def raw (x : FVec Ideal Cert.KernelIdeal.S16x255x32x32 .f32) (b : Fin 16) (a : Fin 3) (k : Fin 85)
    (g h : Fin 32) : EReal :=
  x (ix4 b ⟨a.val * 85 + k.val, by omega⟩ g h)

/-- The decoded boxes of every image, anchor and cell. -/
def boxes (x : FVec Ideal Cert.KernelIdeal.S16x255x32x32 .f32) :
    FVec Ideal Cert.KernelIdeal.S16x3x32x32x4 .f32 := fun j =>
  boxEntry (j 1) (j 2).val (j 3).val (j 4)
    (raw x (j 0) (j 1) (Fin.castLE (by decide) (j 4)) (j 2) (j 3))

/-- The objectness of every image, anchor and cell: the logistic of channel 4. -/
def conf (x : FVec Ideal Cert.KernelIdeal.S16x255x32x32 .f32) :
    FVec Ideal Cert.KernelIdeal.S16x3x32x32 .f32 := fun j =>
  Ideal.logistic (raw x (j 0) (j 1) 4 (j 2) (j 3))

/-- The class scores of every image, anchor and cell: the logistic of channels 5 to 84. -/
def classes (x : FVec Ideal Cert.KernelIdeal.S16x255x32x32 .f32) :
    FVec Ideal Cert.KernelIdeal.S16x3x32x32x80 .f32 := fun j =>
  Ideal.logistic (raw x (j 0) (j 1) (Fin.natAdd 5 (j 4)) (j 2) (j 3))

/-! ## Literals -/

/-- The single-precision word of 32 is the grid's side. -/
theorem bits_side : Ideal.ofBits .f32 0x42000000#32 = side := by
  simp [Ideal.ofBits, Ideal.ieee, side, -EReal.coe_mul]; norm_num

/-- Multiplying by the single-precision word of 1/32 divides by the grid's side. -/
theorem mul_bits_inv (x : EReal) : x * Ideal.ofBits .f32 0x3D000000#32 = Ideal.div x side := by
  have e : Ideal.ofBits .f32 0x3D000000#32 = ((1 / 32 : ℝ) : EReal) := by
    simp [Ideal.ofBits, Ideal.ieee, -EReal.coe_mul]; norm_num
  rw [side, Ideal.div_coe (by norm_num), e]

/-- The three anchor widths in cells, as literals of one program. -/
theorem bits_scaledW (a : Fin 3) :
    Ideal.ofBits .f32 ((![0x410F5C29#32, 0x41428F5C#32, 0x41E66666#32] : Fin 3 → BitVec 32) a)
      = ((anchorW a * 32 : ℝ) : EReal) := by
  fin_cases a <;> simp [Ideal.ofBits, Ideal.ieee, anchorW, -EReal.coe_mul] <;> norm_num

/-- The three anchor heights in cells, as literals of one program. -/
theorem bits_scaledH (a : Fin 3) :
    Ideal.ofBits .f32 ((![0x40E147AE#32, 0x4175C28F#32, 0x41C7AE14#32] : Fin 3 → BitVec 32) a)
      = ((anchorH a * 32 : ℝ) : EReal) := by
  fin_cases a <;> simp [Ideal.ofBits, Ideal.ieee, anchorH, -EReal.coe_mul] <;> norm_num

/-- The three anchor widths as shares of a cell, scaled by the grid's side. -/
theorem bits_shareW (a : Fin 3) :
    Ideal.ofBits .f32 ((![0x3E8F5C29#32, 0x3EC28F5C#32, 0x3F666666#32] : Fin 3 → BitVec 32) a)
      * Ideal.ofBits .f32 0x42000000#32 = ((anchorW a * 32 : ℝ) : EReal) := by
  rw [bits_side, side, EReal.coe_mul]
  congr 1
  fin_cases a <;> simp [Ideal.ofBits, Ideal.ieee, anchorW, -EReal.coe_mul] <;> norm_num

/-- The three anchor heights as shares of a cell, scaled by the grid's side. -/
theorem bits_shareH (a : Fin 3) :
    Ideal.ofBits .f32 ((![0x3E6147AE#32, 0x3EF5C28F#32, 0x3F47AE14#32] : Fin 3 → BitVec 32) a)
      * Ideal.ofBits .f32 0x42000000#32 = ((anchorH a * 32 : ℝ) : EReal) := by
  rw [bits_side, side, EReal.coe_mul]
  congr 1
  fin_cases a <;> simp [Ideal.ofBits, Ideal.ieee, anchorH, -EReal.coe_mul] <;> norm_num

/-! ## Integers -/

/-- Reading a small number's 32-bit word as a value gives the number. -/
theorem sitofp_ofNat {n : ℕ} (h : n < 1024) :
    (FloatOps.sitofp (F := Ideal) FTy.f32 (BitVec.ofNat 32 n) : EReal) = cell n := by
  have e : (BitVec.ofNat 32 n).toInt = (n : ℤ) := by
    rw [BitVec.toInt_eq_toNat_of_lt (by rw [BitVec.toNat_ofNat]; omega), BitVec.toNat_ofNat]
    omega
  show (((BitVec.ofNat 32 n).toInt : ℝ) : EReal) = _
  rw [e, cell, Int.cast_natCast]

end Cert.Decode
-- ==== Proof.Block.lean ====
module
public import proofs.«01_k».proof.Proof.Decode

/-!
# What one grid point of the kernel writes, entry by entry

The kernel reads a block of two images' raw predictions, one row per channel and one lane per grid
cell, and writes the boxes, the objectness and the class scores of those images.
-/

@[expose] public section
set_option maxRecDepth 16384
noncomputable section
namespace Cert.KernelIdeal.Decode
open Cert.KernelIdeal Cert.KernelIdeal.Gen Cert.Decode Idealize.ShloMosaic

/-- The kernel's floor division of a lane's number by 32 gives the cell's row. -/
theorem row_word : ∀ p : Fin 1024,
    Scalar.select
      (IntOp.andi
        (IntOp.cmpi .ne
          (IntOp.subi (BitVec.setWidth 32 (IntOp.cmpi .sgt (BitVec.ofNat 32 p.val) 0#32))
            (BitVec.setWidth 32 (IntOp.cmpi .slt (BitVec.ofNat 32 p.val) 0#32)))
          (Scalar.subi (Scalar.extui (Scalar.cmpi .sgt 32#32 0#32))
            (Scalar.extui (Scalar.cmpi .slt 32#32 0#32))))
        (IntOp.cmpi .ne (IntOp.remsi .vector (BitVec.ofNat 32 p.val) 32#32) 0#32))
      (IntOp.subi (IntOp.divsi .vector (BitVec.ofNat 32 p.val) 32#32) 1#32)
      (IntOp.divsi .vector (BitVec.ofNat 32 p.val) 32#32)
    = BitVec.ofNat 32 (p.val / 32) := by decide +kernel

/-- The divisor of the kernel's remainder is 32. -/
theorem divisor_word : Scalar.select (Scalar.cmpi .eq 32#32 0#32) 1#32 32#32 = 32#32 := by
  decide +kernel

/-- The kernel's remainder of a lane's number by 32 gives the cell's column. -/
theorem col_word : ∀ p : Fin 1024,
    Scalar.select
      (IntOp.andi
        (IntOp.xori
          (IntOp.cmpi .slt (IntOp.remsi .vector (BitVec.ofNat 32 p.val) 32#32) 0#32)
          (Scalar.cmpi .slt 32#32 0#32))
        (IntOp.cmpi .ne (IntOp.remsi .vector (BitVec.ofNat 32 p.val) 32#32) 0#32))
      (IntOp.addi (IntOp.remsi .vector (BitVec.ofNat 32 p.val) 32#32) 32#32)
      (IntOp.remsi .vector (BitVec.ofNat 32 p.val) 32#32)
    = BitVec.ofNat 32 (p.val % 32) := by decide +kernel

/-- Choosing among three literals by the anchor's number reads the anchor's literal. -/
theorem select_anchor (a : Fin 3) (x y z : BitVec 32) :
    Scalar.select (IntOp.cmpi .eq (BitVec.ofNat 32 a.val) 0#32) (Ideal.ofBits .f32 x)
      (Scalar.select (IntOp.cmpi .eq (BitVec.ofNat 32 a.val) 1#32) (Ideal.ofBits .f32 y)
        (Ideal.ofBits .f32 z))
    = Ideal.ofBits .f32 ((![x, y, z] : Fin 3 → BitVec 32) a) := by
  fin_cases a <;> rfl

/-- The kernel's choice by channel: channels 0 and 1 take the first value, with the first and the
    second offset, channels 2 and 3 the second value, with the first and the second factor. -/
theorem select_channel (k : Fin 4) (l e r c w h : EReal) :
    Scalar.select (IntOp.cmpi .slt (BitVec.ofNat 32 k.val) 2#32)
      (l + Scalar.select (IntOp.cmpi .eq (BitVec.ofNat 32 k.val) 0#32) r
        (Scalar.select (IntOp.cmpi .eq (BitVec.ofNat 32 k.val) 1#32) c 0))
      (e * Scalar.select (IntOp.cmpi .eq (BitVec.ofNat 32 k.val) 2#32) w h)
    = (![l + r, l + c, e * w, e * h] : Fin 4 → EReal) k := by
  fin_cases k <;> rfl

/-- A box entry of the block the kernel writes: the decoded raw prediction of the same image,
    anchor, channel and cell. -/
theorem box_block (x : Vec Ideal S2x3x85x1024 .f32) (n : Fin 2) (a : Fin 3) (p : Fin 1024)
    (k : Fin 4) :
    (out0_1 (F := Ideal) x (ix4 n a p k) : EReal)
      = boxEntry a (p.val / 32) (p.val % 32) k (x (ix4 n a ⟨k.val, by omega⟩ p)) := by
  unfold out0_1
  rw [View.canon_unit_zero (by funext a; fin_cases a <;> rfl),
    View.ld_unit_zero (by funext a; fin_cases a <;> rfl)]
  unfold_payloads
  pointwise
  rw [divisor_word, row_word p, col_word p, sitofp_ofNat (by omega), sitofp_ofNat (by omega),
    select_anchor, select_anchor, bits_scaledW, bits_scaledH, select_channel, mul_bits_inv]
  fin_cases k <;> rfl

/-- The objectness the kernel writes: the logistic of the raw prediction's channel 4. -/
theorem conf_block (x : Vec Ideal S2x3x85x1024 .f32) (n : Fin 2) (a : Fin 3) (p : Fin 1024) :
    (out0_2 (F := Ideal) x (ix4 n a 0 p) : EReal) = Ideal.logistic (x (ix4 n a 4 p)) := by
  unfold out0_2
  rw [View.canon_unit_zero (by funext a; fin_cases a <;> rfl)]
  unfold_payloads
  rw [View.ld_unit_zero (by funext a; fin_cases a <;> rfl)]
  pointwise

/-- A class score the kernel writes: the logistic of the raw prediction's channel of the class,
    the classes starting at channel 5. -/
theorem cls_block (x : Vec Ideal S2x3x85x1024 .f32) (n : Fin 2) (a : Fin 3) (p : Fin 1024)
    (k : Fin 80) :
    (out0_3 (F := Ideal) x (ix4 n a p k) : EReal)
      = Ideal.logistic (x (ix4 n a ⟨5 + k.val, by omega⟩ p)) := by
  unfold out0_3
  rw [View.canon_unit_zero (by funext a; fin_cases a <;> rfl)]
  unfold_payloads
  rw [View.ld_unit_zero (by funext a; fin_cases a <;> rfl)]
  pointwise

end Cert.KernelIdeal.Decode
-- ==== Proof.Arrays.lean ====
module
public import proofs.«01_k».proof.Proof.Block

/-!
# What the kernel program returns

Each of the eight grid points writes the results of two images, so the three arrays the pallas_call
fills are read here off the blocks; the program then only renames their axes, splitting the 1024
lanes into the 32 × 32 cells.
-/

@[expose] public section
set_option maxRecDepth 16384
noncomputable section
namespace Cert.KernelIdeal.Decode
open Cert.KernelIdeal Cert.KernelIdeal.Gen Cert.Decode Idealize.ShloMosaic
open Idealize.ShloMosaic.TcCoe Idealize.SL.Sem

variable (m : (ℓ : Loc nD τ sig) → Buf (Elt Ideal) ℓ) (ρ : Dev nD → PrngReg)

/-- The raw predictions the kernel program is given on a device. -/
abbrev arg (c : Dev nD) : FVec Ideal S16x255x32x32 .f32 := m ((c : Thread nD τ).loc main_arg0)

/-- The grid row of a lane. -/
def row (p : Fin 1024) : Fin 32 := ⟨p.val / 32, by omega⟩

/-- The grid column of a lane. -/
def col (p : Fin 1024) : Fin 32 := ⟨p.val % 32, by omega⟩

/-- The lane of a cell lies in the cell's row. -/
theorem row_lane (g h : Fin 32) (hp) : row ⟨g.val * 32 + h.val, hp⟩ = g :=
  Fin.ext (by show (g.val * 32 + h.val) / 32 = g.val; omega)
/-- The lane of a cell lies in the cell's column. -/
theorem col_lane (g h : Fin 32) (hp) : col ⟨g.val * 32 + h.val, hp⟩ = h :=
  Fin.ext (by show (g.val * 32 + h.val) % 32 = h.val; omega)

/-- The block a grid point reads starts at that point's pair of images. -/
theorem idx0 : ∀ t : Fin cfg0.N, win0_0.index t = ![(grid0.coords t 0).val, 0, 0, 0] :=
  (by decide +kernel : ∀ t : Fin grid0.N, _)
/-- The block of boxes a grid point writes starts at that point's pair of images. -/
theorem idx1 : ∀ t : Fin cfg0.N, win0_1.index t = ![(grid0.coords t 0).val, 0, 0, 0] :=
  (by decide +kernel : ∀ t : Fin grid0.N, _)
/-- The block of objectness a grid point writes starts at that point's pair of images. -/
theorem idx2 : ∀ t : Fin cfg0.N, win0_2.index t = ![(grid0.coords t 0).val, 0, 0, 0] :=
  (by decide +kernel : ∀ t : Fin grid0.N, _)
/-- The block of class scores a grid point writes starts at that point's pair of images. -/
theorem idx3 : ∀ t : Fin cfg0.N, win0_3.index t = ![(grid0.coords t 0).val, 0, 0, 0] :=
  (by decide +kernel : ∀ t : Fin grid0.N, _)

/-- The image a grid point's block holds at position `n`. -/
def image (t : Fin cfg0.N) (n : Fin 2) : Fin 16 :=
  ⟨(grid0.coords t 0).val * 2 + n.val, by have h : (grid0.coords t 0).val < 8 := (grid0.coords t 0).isLt; omega⟩

/-- Before the pallas_call the program names the 255 channels by anchor and channel, and the cells by
    one lane number. -/
theorem V_lanes (c : Dev nD) : V m c main_v0
    = shapeCast S16x3x85x1024 (arg m c) shapeCasts_S16x255x32x32_S16x3x85x1024 := by
  show StableHlo.after hostOps0 (fun b => m (c, b)) (Proc.devRef .tc main_v0) = _
  entry_read
  rfl

/-- An entry of the block a grid point reads is the raw prediction of its image, anchor, channel
    and cell. -/
theorem block_read (c : Dev nD) (t : Fin cfg0.N) (n : Fin 2) (a : Fin 3) (k : Fin 85)
    (p : Fin 1024) :
    (iblk m c 0 t (ix4 n a k p) : EReal) = raw (arg m c) (image t n) a k (row p) (col p) := by
  have e : (iblk m c 0 t (ix4 n a k p) : EReal) = V m c main_v0 (ix4 (image t n) a k p) := by
    blk_ext [iblk, idx0 t, image]
  rw [e, V_lanes]
  pointwise
  rfl

/-- Where an entry of a block of boxes lies in the array of boxes. -/
theorem emb1 (t : Fin cfg0.N) (n : Fin 2) (a : Fin 3) (p : Fin 1024) (k : Fin 4) :
    (win0_1.blk t).view.emb (ix4 n a p k) = ix4 (image t n) a p k := by
  blk_ext [idx1 t, image]
/-- Where an entry of a block of objectness lies in the array of objectness. -/
theorem emb2 (t : Fin cfg0.N) (n : Fin 2) (a : Fin 3) (p : Fin 1024) :
    (win0_2.blk t).view.emb (ix4 n a 0 p) = ix4 (image t n) a 0 p := by
  blk_ext [idx2 t, image]
/-- Where an entry of a block of class scores lies in the array of class scores. -/
theorem emb3 (t : Fin cfg0.N) (n : Fin 2) (a : Fin 3) (p : Fin 1024) (k : Fin 80) :
    (win0_3.blk t).view.emb (ix4 n a p k) = ix4 (image t n) a p k := by
  blk_ext [idx3 t, image]

/-- The boxes the pallas_call leaves, one lane per cell. -/
theorem boxes_arr (c : Dev nD) :
    (dats m 0 c).arrAt 1 cfg0.N = fun j : S16x3x1024x4.Idx =>
      boxes (arg m c) (ix5 (j 0) (j 1) (row (j 2)) (col (j 2)) (j 3)) :=
  (dats m 0 c).arrAt_eq_of_covers 1 _ (by decide +kernel) fun t hf y => by
    rw [after0_1]
    idx_vars y
    blk_simp [idx1 t]
    rw [emb1, box_block, block_read]
    rfl

/-- The objectness the pallas_call leaves, one lane per cell. -/
theorem conf_arr (c : Dev nD) :
    (dats m 0 c).arrAt 2 cfg0.N = fun j : S16x3x1x1024.Idx =>
      conf (arg m c) (ix4 (j 0) (j 1) (row (j 3)) (col (j 3))) :=
  (dats m 0 c).arrAt_eq_of_covers 2 _ (by decide +kernel) fun t hf y => by
    rw [after0_2]
    idx_vars y
    obtain rfl : y2 = 0 := Subsingleton.elim _ _
    blk_simp [idx2 t]
    rw [emb2, conf_block, block_read]
    rfl

/-- The class scores the pallas_call leaves, one lane per cell. -/
theorem classes_arr (c : Dev nD) :
    (dats m 0 c).arrAt 3 cfg0.N = fun j : S16x3x1024x80.Idx =>
      classes (arg m c) (ix5 (j 0) (j 1) (row (j 2)) (col (j 2)) (j 3)) :=
  (dats m 0 c).arrAt_eq_of_covers 3 _ (by decide +kernel) fun t hf y => by
    rw [after0_3]
    idx_vars y
    blk_simp [idx3 t]
    rw [emb3, cls_block, block_read]
    rfl

/-- The four arrays the pallas_call reads and fills are different arrays. -/
theorem arrRef_inj : Function.Injective (Pipeline.arrRef (cfgs 0).spec) := by
  decide

/-- The program's operations after the pallas_call, from any contents: its three results are the
    pallas_call's arrays with the lanes split into rows and columns. -/
theorem tail_results (W : Valuation τ sig (Elt Ideal)) :
    (StableHlo.after hostOps1 W (Proc.devRef .tc main_v2)
      = shapeCast S16x3x32x32x4 (W (Proc.devRef .tc main_v1_0)) shapeCasts_S16x3x1024x4_S16x3x32x32x4)
    ∧ (StableHlo.after hostOps1 W (Proc.devRef .tc main_v3)
      = shapeCast S16x3x32x32 (W (Proc.devRef .tc main_v1_1)) shapeCasts_S16x3x1x1024_S16x3x32x32)
    ∧ (StableHlo.after hostOps1 W (Proc.devRef .tc main_v4)
      = shapeCast S16x3x32x32x80 (W (Proc.devRef .tc main_v1_2))
          shapeCasts_S16x3x1024x80_S16x3x32x32x80) := by
  refine ⟨?_, ?_, ?_⟩ <;> entry_read <;> rfl

/-- What a device's buffers hold when the pallas_call is done. -/
abbrev done (c : Dev nD) : Valuation τ sig (Elt Ideal) :=
  Pipeline.withArrays (cfgs 0).spec c (V0 m c) fun w => (dats m 0 c).arrAt w (cfgs 0).N

/-- The pallas_call's three result arrays hold what its blocks add up to. -/
theorem done_arr (c : Dev nD) (w : Fin (cfgs 0).W) :
    done m c (Proc.devRef .tc (Pipeline.arrRef (cfgs 0).spec w)) = (dats m 0 c).arrAt w cfg0.N :=
  Pipeline.withArrays_arr (cfgs 0).spec arrRef_inj c _ _ w

/-- The program's first result is the decoded boxes. -/
theorem boxes_result (c : Dev nD) :
    Pipeline.afterTail₀ cfgs (dats m) 0 (V0 m) [hostOps1] c main_v2 = boxes (arg m c) := by
  refine (tail_results (done m c)).1.trans ?_
  rw [(done_arr m c 1).trans (boxes_arr m c)]
  funext j
  idx_vars j
  pointwise
  rw [row_lane, col_lane]

/-- The program's second result is the decoded objectness. -/
theorem conf_result (c : Dev nD) :
    Pipeline.afterTail₀ cfgs (dats m) 0 (V0 m) [hostOps1] c main_v3 = conf (arg m c) := by
  refine (tail_results (done m c)).2.1.trans ?_
  rw [(done_arr m c 2).trans (conf_arr m c)]
  funext j
  idx_vars j
  pointwise
  rw [row_lane, col_lane]

/-- The program's third result is the decoded class scores. -/
theorem classes_result (c : Dev nD) :
    Pipeline.afterTail₀ cfgs (dats m) 0 (V0 m) [hostOps1] c main_v4 = classes (arg m c) := by
  refine (tail_results (done m c)).2.2.trans ?_
  rw [(done_arr m c 3).trans (classes_arr m c)]
  funext j
  idx_vars j
  pointwise
  rw [row_lane, col_lane]

/-- Every run of the kernel program ends with the decoded boxes, objectness and class scores of the
    predictions it was given, and with the predictions unchanged. -/
theorem run : θ_run defs (onTc (τ := τ) (main (F := Ideal))) ⟨m, fun _ => 0, ρ⟩ fun r =>
    ∀ c : Dev nD,
      r.2.mem ((c.tc : Thread nD τ).loc main_v2) = boxes (arg m c)
      ∧ r.2.mem ((c.tc : Thread nD τ).loc main_v3) = conf (arg m c)
      ∧ r.2.mem ((c.tc : Thread nD τ).loc main_v4) = classes (arg m c)
      ∧ r.2.mem ((c.tc : Thread nD τ).loc main_arg0) = m ((c.tc : Thread nD τ).loc main_arg0) :=
  (θ_run defs _ _).mono (fun _ h c =>
    have rest (b) (h1) (h2) := (h c).2 b (Pipeline.mem_restRefs_of b h1 h2)
    ⟨(rest main_v2 (by decide) (by decide)).trans (boxes_result m c),
      (rest main_v3 (by decide) (by decide)).trans (conf_result m c),
      (rest main_v4 (by decide) (by decide)).trans (classes_result m c),
      (rest main_arg0 (by decide) (by decide)).trans (W_main_arg0 m (dats m) c)⟩)
    (run_main m ρ)

end Cert.KernelIdeal.Decode
-- ==== Proof.Plain.lean ====
module
public import proofs.«01_k».proof.Proof.Decode

/-!
# What the reference returns, entry by entry

The reference splits the 255 channels into three anchors of 85 channels and decodes each slice of
channels on its own. Its three results are read here at one entry.
-/

@[expose] public section
set_option maxRecDepth 16384
noncomputable section
namespace Cert.ReferenceIdeal.Plain
open Cert.ReferenceIdeal Cert.ReferenceIdeal.Value Cert.Decode Idealize.ShloMosaic
open Idealize.ShloMosaic.TcCoe Idealize.SL.Sem

/-- Four one-channel pieces laid side by side hold, in channel `k`, the `k`-th piece. -/
theorem join_apply (u0 u1 u2 u3 : FVec Ideal S16x3x32x32x1 .f32) (hs) (b : Fin 16) (a : Fin 3)
    (g h : Fin 32) (k : Fin 4) :
    concatenate S16x3x32x32x4 4 [⟨S16x3x32x32x1, u0⟩, ⟨S16x3x32x32x1, u1⟩, ⟨S16x3x32x32x1, u2⟩,
      ⟨S16x3x32x32x1, u3⟩] hs (ix5 b a g h k)
    = (![u0 (ix5 b a g h 0), u1 (ix5 b a g h 0), u2 (ix5 b a g h 0), u3 (ix5 b a g h 0)] :
        Fin 4 → EReal) k := by
  fin_cases k <;> pointwise <;> rfl

/-- Naming the one channel of a piece does not change its entries. -/
theorem piece_apply (u : FVec Ideal S16x3x32x32 .f32) (hs) (b : Fin 16) (a : Fin 3)
    (g h : Fin 32) :
    broadcastInDim S16x3x32x32x1 ![0, 1, 2, 3] hs u (ix5 b a g h 0) = u (ix4 b a g h) := by
  pointwise

/-- One channel of the reshaped and transposed predictions. -/
theorem channel_apply (x : FVec Ideal S16x255x32x32 .f32) (o : ℕ) (ho : o < 85) (h1 h2)
    (h3 : S16x3x32x32x85.Slices ![0, 0, 0, 0, o] S16x3x32x32x1) (h4) (b : Fin 16)
    (a : Fin 3) (g h : Fin 32) :
    shapeCast S16x3x32x32 (extractStridedSlice S16x3x32x32x1 ![0, 0, 0, 0, o]
      (transpose S16x3x32x32x85 [0, 1, 3, 4, 2] (shapeCast S16x3x85x32x32 x h1) h2) h3) h4
      (ix4 b a g h) = raw x b a ⟨o, ho⟩ g h := by
  pointwise
  rfl

/-- The reference's logistic of an array, entry by entry: one over one plus the exponential of the
    negated entry. -/
theorem logistic_apply {S : Shape} (u : FVec Ideal S .f32) (hs) (j : S.Idx) :
    Host.divf (broadcastInDim S ![] hs (constant S_ .f32 0x3F800000#32))
      (addf (broadcastInDim S ![] hs (constant S_ .f32 0x3F800000#32)) (Host.exp (Host.negf u))) j
      = Ideal.logistic (u j) := by
  show Ideal.div (Ideal.ofBits .f32 0x3F800000#32)
    (Ideal.ofBits .f32 0x3F800000#32 + Ideal.exp (-u j)) = _
  rw [Ideal.ofBits_one_f32]
  rfl

/-- The row numbers of the cells, as the reference lays them out over images and anchors. -/
theorem rows_apply (h1 h2 h3 h4 h5 h6 h7) (b : Fin 16) (a : Fin 3) (g h : Fin 32) :
    (broadcastInDim S16x3x32x32 ![0, 1, 2, 3] h7 (shapeCast S1x1x32x32
      (transpose S32x32 [1, 0] (shapeCast S32x32 (broadcastInDim S32x1x1x32 ![0, 1, 2, 3] h3
        (shapeCast S1x1x1x32 (broadcastInDim S1x32 ![1] h1
          (sitofp (F := Ideal) .f32 (iotaInDim S32 32 0))) h2)) h4) h5) h6) (ix4 b a g h) : EReal)
      = cell g.val := by
  pointwise
  exact sitofp_ofNat (by omega)

/-- The column numbers of the cells, as the reference lays them out over images and anchors. -/
theorem cols_apply (h1 h2 h3 h4 h6 h7) (b : Fin 16) (a : Fin 3) (g h : Fin 32) :
    (broadcastInDim S16x3x32x32 ![0, 1, 2, 3] h7 (shapeCast S1x1x32x32
      (shapeCast S32x32 (broadcastInDim S32x1x1x32 ![0, 1, 2, 3] h3
        (shapeCast S1x1x1x32 (broadcastInDim S1x32 ![1] h1
          (sitofp (F := Ideal) .f32 (iotaInDim S32 32 0))) h2)) h4) h6) (ix4 b a g h) : EReal)
      = cell h.val := by
  pointwise
  exact sitofp_ofNat (by omega)

/-- One column of a three-by-two table, laid out over images and cells. -/
theorem table_apply (t : FVec Ideal S3x2 .f32) (o : ℕ) (ho : o < 2)
    (h1 : S3x2.Slices ![0, o] S3x1) (h2 h3 h4)
    (b : Fin 16) (a : Fin 3) (g h : Fin 32) :
    broadcastInDim S16x3x32x32 ![0, 1, 2, 3] h4 (shapeCast S1x3x1x1 (shapeCast S3
      (extractStridedSlice S3x1 ![0, o] t h1) h2) h3) (ix4 b a g h) = t (ix2 a ⟨o, ho⟩) := by
  pointwise

/-- The table of anchors in cells: widths in column 0, heights in column 1. -/
theorem anchors_apply (h1 h2) (a : Fin 3) (o : Fin 2) :
    (mulf (F := Ideal) (fun i => FloatOps.ofBits .f32 (lit0 (S3x2.rowMajor i)))
      (broadcastInDim S3x2 ![0, 1] h2 (broadcastInDim S1x2 ![1] h1
        (constant S2 .f32 0x42000000#32))) (ix2 a o) : EReal)
      = (((![anchorW a, anchorH a] : Fin 2 → ℝ) o * 32 : ℝ) : EReal) := by
  show Ideal.ofBits .f32 (lit0 (S3x2.rowMajor (ix2 a o))) * Ideal.ofBits .f32 0x42000000#32 = _
  fin_cases o
  · refine Eq.trans ?_ (bits_shareW a)
    fin_cases a <;> rfl
  · refine Eq.trans ?_ (bits_shareH a)
    fin_cases a <;> rfl

/-- The divisor of the boxes is the grid's side everywhere. -/
theorem side_apply (h1 h2) (j : S16x3x32x32x4.Idx) :
    (broadcastInDim S16x3x32x32x4 ![0, 1, 2, 3, 4] h2 (broadcastInDim S1x1x1x1x4 ![4] h1
      (constant (F := Ideal) S4 .f32 0x42000000#32)) j : EReal) = side :=
  bits_side

/-- A centre entry before the division: the logistic of a channel plus the cell's coordinate. -/
theorem centre_apply (u t : FVec Ideal S16x3x32x32 .f32)
    (hs h0) (b : Fin 16) (a : Fin 3) (g h : Fin 32) :
    broadcastInDim S16x3x32x32x1 ![0, 1, 2, 3] hs
      (addf (Host.divf (broadcastInDim S16x3x32x32 ![] h0 (constant S_ .f32 0x3F800000#32))
        (addf (broadcastInDim S16x3x32x32 ![] h0 (constant S_ .f32 0x3F800000#32))
          (Host.exp (Host.negf u)))) t) (ix5 b a g h 0)
      = Ideal.logistic (u (ix4 b a g h)) + t (ix4 b a g h) := by
  rw [piece_apply, ← logistic_apply u h0]
  rfl

/-- A size entry before the division: the exponential of a channel times the anchor's size. -/
theorem size_apply (u t : FVec Ideal S16x3x32x32 .f32)
    (hs) (b : Fin 16) (a : Fin 3) (g h : Fin 32) :
    broadcastInDim S16x3x32x32x1 ![0, 1, 2, 3] hs (mulf (Host.exp u) t) (ix5 b a g h 0)
      = Ideal.exp (u (ix4 b a g h)) * t (ix4 b a g h) := by
  rw [piece_apply]
  rfl

/-- The reference's boxes are the decoded boxes. -/
theorem boxes_eq (m : (ℓ : Loc nD τ sig) → Buf (Elt Ideal) ℓ) (c : Dev nD) :
    res_main_v76 m c = boxes (m ((c.tc : Thread nD τ).loc main_arg0)) := by
  funext j
  idx_vars j
  unfold res_main_v76
  show Ideal.div (concatenate _ _ _ _ _) _ = _
  rw [side_apply, join_apply, centre_apply, centre_apply, size_apply, size_apply,
    channel_apply _ 0 (by omega), channel_apply _ 1 (by omega), channel_apply _ 2 (by omega),
    channel_apply _ 3 (by omega), rows_apply, cols_apply, table_apply _ 0 (by omega),
    table_apply _ 1 (by omega), anchors_apply, anchors_apply]
  fin_cases j4 <;> rfl

/-- The reference's objectness is the decoded objectness. -/
theorem conf_eq (x : FVec Ideal S16x255x32x32 .f32) (h0 h1 h2 h3 h4) :
    Host.divf (broadcastInDim S16x3x32x32 ![] h0 (constant S_ .f32 0x3F800000#32))
      (addf (broadcastInDim S16x3x32x32 ![] h0 (constant S_ .f32 0x3F800000#32))
        (Host.exp (Host.negf (shapeCast S16x3x32x32
          (extractStridedSlice S16x3x32x32x1 ![0, 0, 0, 0, 4]
            (transpose S16x3x32x32x85 [0, 1, 3, 4, 2] (shapeCast S16x3x85x32x32 x h1) h2) h3) h4))))
      = conf x := by
  funext j
  idx_vars j
  rw [logistic_apply, channel_apply _ 4 (by omega)]
  rfl

/-- The reference's class scores are the decoded class scores. -/
theorem classes_eq (x : FVec Ideal S16x255x32x32 .f32) (h0 h1 h2 h3) :
    Host.divf (broadcastInDim S16x3x32x32x80 ![] h0 (constant S_ .f32 0x3F800000#32))
      (addf (broadcastInDim S16x3x32x32x80 ![] h0 (constant S_ .f32 0x3F800000#32))
        (Host.exp (Host.negf (extractStridedSlice S16x3x32x32x80 ![0, 0, 0, 0, 5]
          (transpose S16x3x32x32x85 [0, 1, 3, 4, 2] (shapeCast S16x3x85x32x32 x h1) h2) h3))))
      = classes x := by
  funext j
  idx_vars j
  rw [logistic_apply]
  pointwise
  rfl

/-- Every run of the reference ends with the decoded boxes, objectness and class scores of the
    predictions it was given, and with the predictions unchanged. -/
theorem run_decoded (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v76) = boxes (m ((c.tc : Thread nD τ).loc main_arg0))
      ∧ r.2.mem ((c.tc : Thread nD τ).loc main_v29) = conf (m ((c.tc : Thread nD τ).loc main_arg0))
      ∧ r.2.mem ((c.tc : Thread nD τ).loc main_v36)
        = classes (m ((c.tc : Thread nD τ).loc main_arg0))
      ∧ r.2.mem ((c.tc : Thread nD τ).loc main_arg0) = m ((c.tc : Thread nD τ).loc main_arg0) :=
  (θ_run defs _ _).mono (fun _ h c =>
    ⟨(h c).1.trans (boxes_eq m c), (h c).2.1.trans (conf_eq _ _ _ _ _ _),
      (h c).2.2.1.trans (classes_eq _ _ _ _ _), (h c).2.2.2⟩)
    (run m ρ)

end Cert.ReferenceIdeal.Plain
-- ==== Proof.lean ====
/- The certificate's claims assembled: the three programs end with their argument unchanged and their
   counters at zero, the idealized kernel is the kernel read over the reals, and the idealized kernel
   and the reference return the same three arrays. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Arrays
public import proofs.«01_k».proof.Proof.Plain
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- Every run of the reference leaves its argument unchanged and its counters at zero. -/
theorem reference_quiescent
    (m : (ℓ : Loc Cert.ReferenceIdeal.nD Cert.ReferenceIdeal.τ Cert.ReferenceIdeal.sig) →
      Buf (Elt Ideal) ℓ) (ρ : Dev Cert.ReferenceIdeal.nD → PrngReg) :
    θ_run (Cert.ReferenceIdeal.defs (F := Ideal))
      (onTc (τ := Cert.ReferenceIdeal.τ) (Cert.ReferenceIdeal.main (F := Ideal)))
      ⟨m, fun _ => 0, ρ⟩ fun r =>
        (∀ c : Dev Cert.ReferenceIdeal.nD,
          r.2.mem ((c.tc : Thread Cert.ReferenceIdeal.nD Cert.ReferenceIdeal.τ).loc
              Cert.ReferenceIdeal.main_arg0)
            = m ((c.tc : Thread Cert.ReferenceIdeal.nD Cert.ReferenceIdeal.τ).loc
              Cert.ReferenceIdeal.main_arg0))
        ∧ r.2.sem = fun _ => 0 :=
  (θ_run Cert.ReferenceIdeal.defs _ _).mono
    (fun r h => ⟨fun c => (h c).2.2.2,
      Idealize.ShloMosaic.sem_eq_zero_of_no_sems (by decide) r.2⟩)
    (Cert.ReferenceIdeal.Plain.run_decoded m ρ)

/-- From the same raw predictions the idealized kernel and the reference end with the same boxes,
    objectness and class scores. -/
theorem same_results : algebraic_KernelIdeal_ReferenceIdeal := by
  intro m g m' g' _ hagree
  refine ⟨fun c => Cert.Decode.boxes (Cert.KernelIdeal.Decode.arg m c),
    fun c => Cert.Decode.conf (Cert.KernelIdeal.Decode.arg m c),
    fun c => Cert.Decode.classes (Cert.KernelIdeal.Decode.arg m c),
    Cert.KernelIdeal.Decode.run m g, ?_⟩
  refine (θ_run Cert.ReferenceIdeal.defs _ _).mono (fun r h c => ?_)
    (Cert.ReferenceIdeal.Plain.run_decoded m' g')
  obtain ⟨h1, h2, h3, h4⟩ := h c
  exact ⟨h1.trans (congrArg Cert.Decode.boxes (hagree c)),
    h2.trans (congrArg Cert.Decode.conf (hagree c)),
    h3.trans (congrArg Cert.Decode.classes (hagree c)), h4⟩

/-- All the claims. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    fun m ρ _ => reference_quiescent m ρ, trivial, same_results⟩

end Cert.Proof

end
